-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4096x512 : Shape := ⟨2, ![4096, 512]⟩
abbrev S3x16 : Shape := ⟨2, ![3, 16]⟩
abbrev S8192x64 : Shape := ⟨2, ![8192, 64]⟩
abbrev S64 : Shape := ⟨1, ![64]⟩
abbrev S64x64 : Shape := ⟨2, ![64, 64]⟩
abbrev S_ : Shape := ⟨0, ![]⟩

class Facts : Prop where
  bcast_S_S4096x512 : S_.BroadcastsInDim S4096x512 (![] : Fin 0 → Fin S4096x512.rank)
  bcast_S_S3x16 : S_.BroadcastsInDim S3x16 (![] : Fin 0 → Fin S3x16.rank)
  bcast_S_S8192x64 : S_.BroadcastsInDim S8192x64 (![] : Fin 0 → Fin S8192x64.rank)
  bcast_S_S64x64 : S_.BroadcastsInDim S64x64 (![] : Fin 0 → Fin S64x64.rank)

variable [Facts]

def fn {F : FTy → Type} [FloatOps F] (main_arg0 : IVec S4096x512 32) (main_arg1 : FVec F S3x16 .f32) (main_arg2 : FVec F S8192x64 .f32) (main_arg3 : FVec F S64 .f32) (main_arg4 : FVec F S64x64 .f32) (main_arg5 : FVec F S64 .f32) : IVec S4096x512 1 × IVec S3x16 1 × IVec S8192x64 1 × IVec S64x64 1 :=
  let main_c : IVec S_ 32 := constantI S_ 32 0#32
  let main_v0 : IVec S4096x512 32 := broadcastInDim S4096x512 ![] bcast_S_S4096x512 main_c
  let main_v1 : IVec S4096x512 1 := cmpi .sge main_arg0 main_v0
  let main_c_0 : IVec S_ 32 := constantI S_ 32 3#32
  let main_v2 : IVec S4096x512 32 := broadcastInDim S4096x512 ![] bcast_S_S4096x512 main_c_0
  let main_v3 : IVec S4096x512 1 := cmpi .slt main_arg0 main_v2
  let main_v4 : IVec S4096x512 1 := andi main_v1 main_v3
  let main_v5 : FVec F S3x16 .f32 := Host.absf main_arg1
  let main_cst : FVec F S_ .f32 := constant S_ .f32 0x7F800000#32
  let main_v6 : FVec F S3x16 .f32 := broadcastInDim S3x16 ![] bcast_S_S3x16 main_cst
  let main_v7 : IVec S3x16 1 := cmpf .olt main_v5 main_v6
  let main_v8 : FVec F S8192x64 .f32 := Host.absf main_arg2
  let main_cst_1 : FVec F S_ .f32 := constant S_ .f32 0x7F800000#32
  let main_v9 : FVec F S8192x64 .f32 := broadcastInDim S8192x64 ![] bcast_S_S8192x64 main_cst_1
  let main_v10 : IVec S8192x64 1 := cmpf .olt main_v8 main_v9
  let main_v11 : FVec F S64x64 .f32 := Host.absf main_arg4
  let main_cst_2 : FVec F S_ .f32 := constant S_ .f32 0x7F800000#32
  let main_v12 : FVec F S64x64 .f32 := broadcastInDim S64x64 ![] bcast_S_S64x64 main_cst_2
  let main_v13 : IVec S64x64 1 := cmpf .olt main_v11 main_v12
  (main_v4, main_v7, main_v10, main_v13)
-- ==== Kernel.lean ====
abbrev S4096x512 : Shape := ⟨2, ![4096, 512]⟩
abbrev S3x16 : Shape := ⟨2, ![3, 16]⟩
abbrev S8192x64 : Shape := ⟨2, ![8192, 64]⟩
abbrev S64 : Shape := ⟨1, ![64]⟩
abbrev S64x64 : Shape := ⟨2, ![64, 64]⟩
abbrev S4096x64 : Shape := ⟨2, ![4096, 64]⟩
abbrev S2048x512 : Shape := ⟨2, ![2048, 512]⟩
abbrev S2048x64 : Shape := ⟨2, ![2048, 64]⟩
abbrev S512x128 : Shape := ⟨2, ![512, 128]⟩
abbrev S1x64 : Shape := ⟨2, ![1, 64]⟩
abbrev S64x128 : Shape := ⟨2, ![64, 128]⟩
abbrev S512x16x64 : Shape := ⟨3, ![512, 16, 64]⟩
abbrev S1x16 : Shape := ⟨2, ![1, 16]⟩
abbrev S1x16x1 : Shape := ⟨3, ![1, 16, 1]⟩
abbrev S512x64 : Shape := ⟨2, ![512, 64]⟩
abbrev S2048x128 : Shape := ⟨2, ![2048, 128]⟩
abbrev S262144 : Shape := ⟨1, ![262144]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .i32⟩
  | .hbm, ⟨1, _⟩ => ⟨S3x16, .f32⟩
  | .hbm, ⟨2, _⟩ => ⟨S8192x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4096x64, .f32⟩
  | .hbm, ⟨7, _⟩ => ⟨S262144, .f32⟩
  | .local _ .vmem, ⟨0, _⟩ => ⟨S2048x512, .i32⟩
  | .local _ .vmem, ⟨1, _⟩ => ⟨S2048x512, .i32⟩
  | .local _ .vmem, ⟨2, _⟩ => ⟨S3x16, .f32⟩
  | .local _ .vmem, ⟨3, _⟩ => ⟨S8192x64, .f32⟩
  | .local _ .vmem, ⟨4, _⟩ => ⟨S64, .f32⟩
  | .local _ .vmem, ⟨5, _⟩ => ⟨S64x64, .f32⟩
  | .local _ .vmem, ⟨6, _⟩ => ⟨S64, .f32⟩
  | .local _ .vmem, ⟨7, _⟩ => ⟨S2048x64, .f32⟩
  | .local _ .vmem, ⟨8, _⟩ => ⟨S2048x64, .f32⟩
  | .local _ .vmem, ⟨9, _⟩ => ⟨S512x128, .bf16⟩
  | .local _ .vmem, ⟨10, _⟩ => ⟨S512x128, .bf16⟩
  | .local _ .vmem, ⟨11, _⟩ => ⟨S1x64, .f32⟩
  | .local _ .vmem, ⟨12, _⟩ => ⟨S64x128, .bf16⟩
  | _, _ => ⟨S4096x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x512 : Shape := ⟨2, ![4096, 512]⟩
abbrev S3x16 : Shape := ⟨2, ![3, 16]⟩
abbrev S8192x64 : Shape := ⟨2, ![8192, 64]⟩
abbrev S64 : Shape := ⟨1, ![64]⟩
abbrev S64x64 : Shape := ⟨2, ![64, 64]⟩
abbrev S_ : Shape := ⟨0, ![]⟩
abbrev S4096x512x1 : Shape := ⟨3, ![4096, 512, 1]⟩
abbrev S1 : Shape := ⟨1, ![1]⟩
abbrev S1x1x1 : Shape := ⟨3, ![1, 1, 1]⟩
abbrev S4096x512x16 : Shape := ⟨3, ![4096, 512, 16]⟩
abbrev S4096x8192 : Shape := ⟨2, ![4096, 8192]⟩
abbrev S4096x64 : Shape := ⟨2, ![4096, 64]⟩
abbrev S1x64 : Shape := ⟨2, ![1, 64]⟩
abbrev S262144 : Shape := ⟨1, ![262144]⟩

abbrev nBuf : Space → Nat
  | .hbm => 41
  | .vmem => 0
  | .smem => 0
  | _ => 0

abbrev bufTy : (tb : Table) → Fin (tcTables nBuf tb) → BufTy
  | .hbm, ⟨0, _⟩ => ⟨S4096x512, .i32⟩
  | .hbm, ⟨1, _⟩ => ⟨S3x16, .f32⟩
  | .hbm, ⟨2, _⟩ => ⟨S8192x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S4096x512, .i32⟩
  | .hbm, ⟨8, _⟩ => ⟨S4096x512, .i1⟩
  | .hbm, ⟨9, _⟩ => ⟨S_, .i32⟩
  | .hbm, ⟨10, _⟩ => ⟨S4096x512, .i32⟩
  | .hbm, ⟨11, _⟩ => ⟨S4096x512, .i32⟩
  | .hbm, ⟨12, _⟩ => ⟨S4096x512, .i32⟩
  | .hbm, ⟨13, _⟩ => ⟨S4096x512x1, .i32⟩
  | .hbm, ⟨14, _⟩ => ⟨S1, .i32⟩
  | .hbm, ⟨15, _⟩ => ⟨S_, .i32⟩
  | .hbm, ⟨16, _⟩ => ⟨S4096x512x1, .i32⟩
  | .hbm, ⟨17, _⟩ => ⟨S4096x512x1, .i1⟩
  | .hbm, ⟨18, _⟩ => ⟨S1x1x1, .i32⟩
  | .hbm, ⟨19, _⟩ => ⟨S4096x512x1, .i32⟩
  | .hbm, ⟨20, _⟩ => ⟨S4096x512x1, .i1⟩
  | .hbm, ⟨21, _⟩ => ⟨S4096x512x1, .i1⟩
  | .hbm, ⟨22, _⟩ => ⟨S_, .i1⟩
  | .hbm, ⟨23, _⟩ => ⟨S4096x512, .i1⟩
  | .hbm, ⟨24, _⟩ => ⟨S4096x512x16, .f32⟩
  | .hbm, ⟨25, _⟩ => ⟨S4096x512x16, .i1⟩
  | .hbm, ⟨26, _⟩ => ⟨S_, .f32⟩
  | .hbm, ⟨27, _⟩ => ⟨S4096x512x16, .f32⟩
  | .hbm, ⟨28, _⟩ => ⟨S4096x512x16, .f32⟩
  | .hbm, ⟨29, _⟩ => ⟨S4096x8192, .f32⟩
  | .hbm, ⟨30, _⟩ => ⟨S4096x64, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S1x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S262144, .f32⟩
  | _, _ => ⟨S4096x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Steps.lean ====
/- What the two grid points leave behind: at the first point the body folds the table and the weights into four
   scratch buffers, at the second it finds them as the first left them; at either it stores one block of the result. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

variable {F : FTy → Type} [FloatOps F]
variable (m : (ℓ : Loc nD τ sig) → Buf (Elt F) ℓ)

theorem off1 : (![0] : Fin 1 → Nat) = fun _ => 0 := by decide
theorem off2 : (![0, 0] : Fin 2 → Nat) = fun _ => 0 := by decide

/-- The folded first-order coefficients, as the first point stores them: high half beside low half. -/
def linBuf (W : Vec F S8192x64 .f32) (E : Vec F S3x16 .f32) : Vec F S512x128 .bf16 := k0_pay6 W E

/-- The folded second-order coefficients, as the first point stores them. -/
def quadBuf (W : Vec F S8192x64 .f32) (E : Vec F S3x16 .f32) : Vec F S512x128 .bf16 := k0_pay7 W E

/-- The folded constant term and first bias, as the first point stores them. -/
def constBuf (W : Vec F S8192x64 .f32) (E : Vec F S3x16 .f32) (b : Vec F S64 .f32) : Vec F S1x64 .f32 :=
  k0_pay9 (k0_pay2 W) (k0_pay8 E) b

/-- The second weight, high half beside low half, as the first point stores it. -/
def wideBuf (W : Vec F S64x64 .f32) : Vec F S64x128 .bf16 := k0_pay10 W

/-- The block a point stores, from its block of indices, the four scratch buffers and the second bias. -/
def outBlock (x : Vec F S2048x512 .i32) (l q : Vec F S512x128 .bf16) (k : Vec F S1x64 .f32) (w : Vec F S64x128 .bf16)
    (b : Vec F S64 .f32) : Vec F S2048x64 .f32 :=
  k0_pay1 (k0_pay11 x l q k w w) (k0_pay12 b)

/-- After the first point the first scratch holds the folded first-order coefficients. -/
theorem lin_first (c : Dev nD) (t : Fin cfg0.N) (h : t.val % 2 = 0) :
    (outsAt0 m c t.val t.isLt).2.1 = linBuf (iblk m c 2 t) (iblk m c 1 t) := by
  rw [outsAt0_A m c t h]
  dsimp only
  unfold sout0_A_0
  refine (View.read_writes_eq_canon _ _ _ (fun y => scover0_A_0 (y := y) ..)).trans ?_
  unfold kernelRun0_A
  dsimp only
  sl_unfold_words
  simp only [View.readAt_eq_ld, (hs0_0 t).read_unread, (hs0_1 t).read_unread, (hs0_2 t).read_unread]
  rw [View.canon_unit_zero (S := S512x128) off2, View.ld_unit_zero (S := S8192x64) off2, View.ld_unit_zero (S := S3x16) off2]
  rfl

/-- After the first point the second scratch holds the folded second-order coefficients. -/
theorem quad_first (c : Dev nD) (t : Fin cfg0.N) (h : t.val % 2 = 0) :
    (outsAt0 m c t.val t.isLt).2.2.1 = quadBuf (iblk m c 2 t) (iblk m c 1 t) := by
  rw [outsAt0_A m c t h]
  dsimp only
  unfold sout0_A_1
  refine (View.read_writes_eq_canon _ _ _ (fun y => scover0_A_1 (y := y) ..)).trans ?_
  unfold kernelRun0_A
  dsimp only
  sl_unfold_words
  simp only [View.readAt_eq_ld, (hs0_1 t).read_unread, (hs0_2 t).read_unread]
  rw [View.canon_unit_zero (S := S512x128) off2, View.ld_unit_zero (S := S8192x64) off2, View.ld_unit_zero (S := S3x16) off2]
  rfl

/-- After the first point the third scratch holds the folded constant term and the first bias. -/
theorem const_first (c : Dev nD) (t : Fin cfg0.N) (h : t.val % 2 = 0) :
    (outsAt0 m c t.val t.isLt).2.2.2.1 = constBuf (iblk m c 2 t) (iblk m c 1 t) (iblk m c 3 t) := by
  rw [outsAt0_A m c t h]
  dsimp only
  unfold sout0_A_2
  refine (View.read_writes_eq_canon _ _ _ (fun y => scover0_A_2 (y := y) ..)).trans ?_
  unfold kernelRun0_A
  dsimp only
  sl_unfold_words
  simp only [View.readAt_eq_ld, (hs0_1 t).read_unread, (hs0_2 t).read_unread, (hs0_3 t).read_unread]
  rw [View.canon_unit_zero (S := S1x64) off2, View.ld_unit_zero (S := S8192x64) off2, View.ld_unit_zero (S := S3x16) off2,
    View.ld_unit_zero (S := S64) off1]
  rfl

/-- After the first point the fourth scratch holds the second weight, split. -/
theorem wide_first (c : Dev nD) (t : Fin cfg0.N) (h : t.val % 2 = 0) :
    (outsAt0 m c t.val t.isLt).2.2.2.2 = wideBuf (iblk m c 4 t) := by
  rw [outsAt0_A m c t h]
  dsimp only
  unfold sout0_A_3
  refine (View.read_writes_eq_canon _ _ _ (fun y => scover0_A_3 (y := y) ..)).trans ?_
  unfold kernelRun0_A
  dsimp only
  sl_unfold_words
  simp only [View.readAt_eq_ld, (hs0_4 t).read_unread]
  rw [View.canon_unit_zero (S := S64x128) off2, View.ld_unit_zero (S := S64x64) off2]
  rfl

/-- The block the first point stores: over the scratch it has just filled. -/
theorem out_first (c : Dev nD) (t : Fin cfg0.N) (h : t.val % 2 = 0) :
    (outsAt0 m c t.val t.isLt).1 = outBlock (iblk m c 0 t) (linBuf (iblk m c 2 t) (iblk m c 1 t))
      (quadBuf (iblk m c 2 t) (iblk m c 1 t)) (constBuf (iblk m c 2 t) (iblk m c 1 t) (iblk m c 3 t))
      (wideBuf (iblk m c 4 t)) (iblk m c 5 t) := by
  rw [outsAt0_A m c t h]
  dsimp only
  unfold out0_A_6
  refine (View.read_writes_eq_canon _ _ _ (fun y => cover0_A_6 (y := y) ..)).trans ?_
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread]
  simp only [View.canon_unit_zero (S := S2048x64) off2, View.ld_unit_zero (S := S8192x64) off2, View.ld_unit_zero (S := S3x16) off2,
    View.ld_unit_zero (S := S64) off1, View.ld_unit_zero (S := S64x64) off2, View.ld_unit_zero (S := S2048x512) off2,
    View.readCov_unit_zero (S := S512x128) _ off2, View.readCov_unit_zero (S := S1x64) _ off2,
    View.readCov_unit_zero (S := S64x128) _ off2]
  rfl

/-- The block a later point stores: over the scratch as the point before left it. -/
theorem out_later (c : Dev nD) (t : Fin cfg0.N) (h : ¬t.val % 2 = 0) :
    (outsAt0 m c t.val t.isLt).1 = outBlock (iblk m c 0 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 (iblk m c 5 t) := by
  rw [outsAt0_B m c t h]
  dsimp only
  generalize outsAt0 m c (t.val - 1) (Nat.lt_of_le_of_lt (Nat.sub_le _ _) t.isLt) = o
  obtain ⟨o0, o1, o2, o3, o4⟩ := o
  dsimp only
  unfold out0_B_6
  refine (View.read_writes_eq_canon _ _ _ (fun y => cover0_B_6 (y := y) ..)).trans ?_
  unfold kernelRun0_B
  dsimp only
  sl_unfold_words
  simp only [View.readAt_eq_ld, (hs0_0 t).read_unread, (hs0_5 t).read_unread]
  rw [(Memref.isWhole_whole cc0_scratch0).read_unread, (Memref.isWhole_whole cc0_scratch1).read_unread,
    (Memref.isWhole_whole cc0_scratch2).read_unread, (Memref.isWhole_whole cc0_scratch3).read_unread]
  simp only [View.canon_unit_zero (S := S2048x64) off2, View.ld_unit_zero (S := S2048x512) off2,
    View.ld_unit_zero (S := S64) off1, View.ld_unit_zero (S := S512x128) off2, View.ld_unit_zero (S := S1x64) off2,
    View.ld_unit_zero (S := S64x128) off2]
  rfl

/-! ## The blocks of the arguments -/

/-- Where the windows' blocks start, at each of the two points. -/
theorem starts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0) :=
  (by decide +kernel : ∀ t : Fin grid0.N, _)

/-- Rows `2048 * n` onwards of the index array, `2048` of them. -/
def rows (X : Vec F S4096x512 .i32) (n : Fin 2) : Vec F S2048x512 .i32 := fun j =>
  X (ValueIdx.ix2 ⟨2048 * n.val + (j 0).val, by have := n.isLt; have h : (j 0).val < 2048 := (j 0).isLt; omega⟩ (j 1))

/-- A point's block of indices is its rows of the index array. -/
theorem blk0 (c : Dev nD) (t : Fin cfg0.N) :
    (iblk m c 0 t : Vec F S2048x512 .i32) = rows (m ((c : Thread nD τ).loc main_arg0)) (t.cast N_0) := by
  obtain ⟨⟨h0, h1⟩, -⟩ := starts t
  funext j
  unfold iblk rows
  show V m c main_arg0 _ = m _ _
  refine congrArg (m ((c : Thread nD τ).loc main_arg0)) (funext fun a => Fin.ext ?_)
  match a with
  | ⟨0, _⟩ => show win0_0.index t (0 : Fin 2) * 2048 + 1 * (j 0).val = 2048 * t.val + (j 0).val; rw [h0]; omega
  | ⟨1, _⟩ => show win0_0.index t (1 : Fin 2) * 512 + 1 * (j 1).val = (j 1).val; rw [h1]; omega

/-- A point's block of the table is the table. -/
theorem blk1 (c : Dev nD) (t : Fin cfg0.N) : (iblk m c 1 t : Vec F S3x16 .f32) = m ((c : Thread nD τ).loc main_arg1) := by
  obtain ⟨-, ⟨h0, h1⟩, -⟩ := starts t
  funext j
  refine congrArg (m ((c : Thread nD τ).loc main_arg1)) (funext fun a => Fin.ext ?_)
  match a with
  | ⟨0, _⟩ => show win0_1.index t (0 : Fin 2) * 3 + 1 * (j 0).val = (j 0).val; rw [h0]; omega
  | ⟨1, _⟩ => show win0_1.index t (1 : Fin 2) * 16 + 1 * (j 1).val = (j 1).val; rw [h1]; omega

/-- A point's block of the first weight is the first weight. -/
theorem blk2 (c : Dev nD) (t : Fin cfg0.N) : (iblk m c 2 t : Vec F S8192x64 .f32) = m ((c : Thread nD τ).loc main_arg2) := by
  obtain ⟨-, -, ⟨h0, h1⟩, -⟩ := starts t
  funext j
  refine congrArg (m ((c : Thread nD τ).loc main_arg2)) (funext fun a => Fin.ext ?_)
  match a with
  | ⟨0, _⟩ => show win0_2.index t (0 : Fin 2) * 8192 + 1 * (j 0).val = (j 0).val; rw [h0]; omega
  | ⟨1, _⟩ => show win0_2.index t (1 : Fin 2) * 64 + 1 * (j 1).val = (j 1).val; rw [h1]; omega

/-- A point's block of the first bias is the first bias. -/
theorem blk3 (c : Dev nD) (t : Fin cfg0.N) : (iblk m c 3 t : Vec F S64 .f32) = m ((c : Thread nD τ).loc main_arg3) := by
  obtain ⟨-, -, -, h0, -⟩ := starts t
  funext j
  refine congrArg (m ((c : Thread nD τ).loc main_arg3)) (funext fun a => Fin.ext ?_)
  match a with
  | ⟨0, _⟩ => show win0_3.index t (0 : Fin 1) * 64 + 1 * (j 0).val = (j 0).val; rw [h0]; omega

/-- A point's block of the second weight is the second weight. -/
theorem blk4 (c : Dev nD) (t : Fin cfg0.N) : (iblk m c 4 t : Vec F S64x64 .f32) = m ((c : Thread nD τ).loc main_arg4) := by
  obtain ⟨-, -, -, -, ⟨h0, h1⟩, -⟩ := starts t
  funext j
  refine congrArg (m ((c : Thread nD τ).loc main_arg4)) (funext fun a => Fin.ext ?_)
  match a with
  | ⟨0, _⟩ => show win0_4.index t (0 : Fin 2) * 64 + 1 * (j 0).val = (j 0).val; rw [h0]; omega
  | ⟨1, _⟩ => show win0_4.index t (1 : Fin 2) * 64 + 1 * (j 1).val = (j 1).val; rw [h1]; omega

/-- A point's block of the second bias is the second bias. -/
theorem blk5 (c : Dev nD) (t : Fin cfg0.N) : (iblk m c 5 t : Vec F S64 .f32) = m ((c : Thread nD τ).loc main_arg5) := by
  obtain ⟨-, -, -, -, -, h0, -⟩ := starts t
  funext j
  refine congrArg (m ((c : Thread nD τ).loc main_arg5)) (funext fun a => Fin.ext ?_)
  match a with
  | ⟨0, _⟩ => show win0_5.index t (0 : Fin 1) * 64 + 1 * (j 0).val = (j 0).val; rw [h0]; omega

/-! ## Either point's block, from the arguments -/

/-- What a point stores, from the arguments alone: the scratch is the same at both points. -/
def pointBlock (X : Vec F S4096x512 .i32) (E : Vec F S3x16 .f32) (W1 : Vec F S8192x64 .f32) (b1 : Vec F S64 .f32)
    (W2 : Vec F S64x64 .f32) (b2 : Vec F S64 .f32) (n : Fin 2) : Vec F S2048x64 .f32 :=
  outBlock (rows X n) (linBuf W1 E) (quadBuf W1 E) (constBuf W1 E b1) (wideBuf W2) b2

/-- Each of the two points stores that block. -/
theorem out_eq (c : Dev nD) (t : Fin cfg0.N) :
    (outsAt0 m c t.val t.isLt).1 = pointBlock (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (t.cast N_0) := by
  unfold pointBlock
  by_cases h : t.val % 2 = 0
  · rw [out_first m c t h, blk0, blk1, blk2, blk3, blk4, blk5]
  · have hN : t.val < 2 := lt_of_lt_of_eq t.isLt N_0
    have hz : (t.val - 1) % 2 = 0 := by omega
    rw [out_later m c t h]
    rw [lin_first m c ⟨t.val - 1, Nat.lt_of_le_of_lt (Nat.sub_le _ _) t.isLt⟩ hz,
      quad_first m c ⟨t.val - 1, Nat.lt_of_le_of_lt (Nat.sub_le _ _) t.isLt⟩ hz,
      const_first m c ⟨t.val - 1, Nat.lt_of_le_of_lt (Nat.sub_le _ _) t.isLt⟩ hz,
      wide_first m c ⟨t.val - 1, Nat.lt_of_le_of_lt (Nat.sub_le _ _) t.isLt⟩ hz, blk0, blk1, blk2, blk3, blk4, blk5]

end Cert.KernelIdeal.Hand

end
-- ==== Proof.Array.lean ====
/- What the kernel's result array holds after a run: the two points' blocks stacked, read row-major as one line. -/
module

public import proofs.«01_k».proof.Proof.Steps
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

variable {F : FTy → Type} [FloatOps F]

/-- Two blocks of `2048` rows, one under the other. -/
def stack (g : Fin 2 → Vec F S2048x64 .f32) : Vec F S4096x64 .f32 := fun i =>
  g ⟨(i 0).val / 2048, by have h : (i 0).val < 4096 := (i 0).isLt; omega⟩
    (ValueIdx.ix2 ⟨(i 0).val % 2048, Nat.mod_lt _ (by decide)⟩ (i 1))

/-- The kernel's result as a function of its six arguments. -/
def result (X : Vec F S4096x512 .i32) (E : Vec F S3x16 .f32) (W1 : Vec F S8192x64 .f32) (b1 : Vec F S64 .f32)
    (W2 : Vec F S64x64 .f32) (b2 : Vec F S64 .f32) : Vec F S262144 .f32 :=
  shapeCast S262144 (stack (pointBlock X E W1 b1 W2 b2)) shapeCasts_S4096x64_S262144

variable (m : (ℓ : Loc nD τ sig) → Buf (Elt F) ℓ) (ρ : Dev nD → PrngReg)

/-- The grid's output array after the last point. -/
theorem grid_array (c : Dev nD) : (dats m 0 c).arrAt 6 cfg0.N
    = stack (pointBlock (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) := by
  refine (dats m 0 c).arrAt_eq_of_covers 6 _ (by decide +kernel) fun t hf y => ?_
  blk_simp
  rw [after0_6, out_eq]
  have hN : t.val < 2 := lt_of_lt_of_eq t.isLt N_0
  obtain ⟨h0, h1⟩ := (starts t).2.2.2.2.2.2
  have hy0 : (y 0).val < 2048 := (y 0).isLt
  unfold stack
  have e0 : (((win0_6.blk t).view.emb y) 0).val = t.val * 2048 + (y 0).val := by
    show win0_6.index t (0 : Fin 2) * 2048 + 1 * (y 0).val = _
    rw [h0]; omega
  have e1 : (((win0_6.blk t).view.emb y) 1).val = (y 1).val := by
    show win0_6.index t (1 : Fin 2) * 64 + 1 * (y 1).val = _
    rw [h1]; omega
  have en : (⟨(((win0_6.blk t).view.emb y) 0).val / 2048, by rw [e0]; omega⟩ : Fin 2) = t.cast N_0 := by
    apply Fin.ext
    show _ / 2048 = t.val
    rw [e0]; omega
  refine Eq.symm (congr (congrArg _ en) ?_)
  funext a
  apply Fin.ext
  match a with
  | ⟨0, _⟩ => show (((win0_6.blk t).view.emb y) 0).val % 2048 = (y 0).val; rw [e0]; omega
  | ⟨1, _⟩ => exact e1

/-- Every run ends with the result at `result` of the arguments, on every device. -/
theorem run_result : θ_run defs (onTc (τ := τ) (main (F := F))) ⟨m, fun _ => 0, ρ⟩ (fun r => ∀ c : Dev nD,
    r.2.mem ((c.tc : Thread nD τ).loc main_v1)
      = result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) := by
  refine (θ_run defs _ _).mono (fun r h c => ?_) (run_main m ρ)
  refine (h.rest_eq c main_v1 (by decide)).trans ?_
  unfold Pipeline.afterTail₀
  simp only [List.flatten_cons, List.flatten_nil, List.append_nil]
  after_results
  refine Eq.trans ?_ (congrArg (fun z => shapeCast S262144 z shapeCasts_S4096x64_S262144) (grid_array m c))
  refine congrArg (fun z => shapeCast S262144 z shapeCasts_S4096x64_S262144) ?_
  exact Pipeline.withArrays_arr spec0 (by decide) c (V0 m c) (fun w => (dats m 0 c).arrAt w cfg0.N) 6

end Cert.KernelIdeal.Hand

end
-- ==== Proof.Fold.lean ====
/- What the four scratch buffers hold, at an index, over the extended reals. -/
module

public import proofs.«01_k».proof.Proof.Steps
public import Idealize.ShloMosaic.Lib.Pointwise

@[expose] public section

set_option maxRecDepth 16384

noncomputable section

namespace Cert.KernelIdeal.Hand

open Cert.KernelIdeal Cert.KernelIdeal.Gen
open Idealize.ShloMosaic hiding ix0 ix1 ix2 ix3 ix4 addf_apply subf_apply mulf_apply truncf_apply extf_apply constant_apply
open Idealize.ShloMosaic.ValueIdx

/-! ## Shape changes at an index -/

/-- Row `16 p + e` of the first weight. -/
def slot (p : Fin 512) (e : Fin 16) : Fin 8192 := ⟨16 * p.val + e.val, by have := p.isLt; have := e.isLt; omega⟩

/-- The first weight cut into groups of sixteen rows: element `(p, e, h)` is row `16 p + e`, column `h`. -/
theorem cut_apply (W : Vec Ideal S8192x64 .f32) (p : Fin 512) (e : Fin 16) (h : Fin 64) :
    k0_pay2 W (ix3 p e h) = W (ix2 (slot p e) h) := by
  unfold k0_pay2
  refine shapeCast_apply W _ _ _ ?_
  rw [Shape.rowMajor_val_three, Shape.rowMajor_val_two]
  show (16 * p.val + e.val) * 64 + h.val = (p.val * 16 + e.val) * 64 + h.val
  omega

/-- Row `0` of the table, as a column of sixteen. -/
theorem row0_apply (E : Vec Ideal S3x16 .f32) (e : Fin 16) : k0_pay3 E (ix3 0 e 0) = E (ix2 0 e) := by
  unfold k0_pay3
  refine (shapeCast_apply _ _ _ (ix2 0 e) ?_).trans (extractStridedSlice_apply _ _ _ _ _ ?_)
  · rw [Shape.rowMajor_val_three, Shape.rowMajor_val_two]
    show 0 * 16 + e.val = (0 * 16 + e.val) * 1 + 0
    omega
  · intro a
    match a with
    | ⟨0, _⟩ => rfl
    | ⟨1, _⟩ => show e.val = 0 + e.val; omega

/-- Row `1` of the table, as a column of sixteen. -/
theorem row1_apply (E : Vec Ideal S3x16 .f32) (e : Fin 16) : k0_pay4 E (ix3 0 e 0) = E (ix2 1 e) := by
  unfold k0_pay4
  refine (shapeCast_apply _ _ _ (ix2 0 e) ?_).trans (extractStridedSlice_apply _ _ _ _ _ ?_)
  · rw [Shape.rowMajor_val_three, Shape.rowMajor_val_two]
    show 0 * 16 + e.val = (0 * 16 + e.val) * 1 + 0
    omega
  · intro a
    match a with
    | ⟨0, _⟩ => rfl
    | ⟨1, _⟩ => show e.val = 0 + e.val; omega

/-- Row `2` of the table, as a column of sixteen. -/
theorem row2_apply (E : Vec Ideal S3x16 .f32) (e : Fin 16) : k0_pay5 E (ix3 0 e 0) = E (ix2 2 e) := by
  unfold k0_pay5
  refine (shapeCast_apply _ _ _ (ix2 0 e) ?_).trans (extractStridedSlice_apply _ _ _ _ _ ?_)
  · rw [Shape.rowMajor_val_three, Shape.rowMajor_val_two]
    show 0 * 16 + e.val = (0 * 16 + e.val) * 1 + 0
    omega
  · intro a
    match a with
    | ⟨0, _⟩ => rfl
    | ⟨1, _⟩ => show e.val = 0 + e.val; omega

/-- A column of sixteen spread over all groups and columns. -/
theorem spread_apply (x : FVec Ideal S1x16x1 .f32) (p : Fin 512) (e : Fin 16) (h : Fin 64) :
    broadcastTo S512x16x64 x broadcasts_S1x16x1_S512x16x64 (ix3 p e h) = x (ix3 0 e 0) :=
  broadcastTo_apply _ _ _ _ fun a => match a with
    | ⟨0, _⟩ => rfl
    | ⟨1, _⟩ => rfl
    | ⟨2, _⟩ => rfl

/-- A row of sixty-four as a one-row array. -/
theorem row64_apply (b : Vec Ideal S64 .f32) (h : Fin 64) :
    shapeCast S1x64 b shapeCasts_S64_S1x64 (ix2 0 h) = b (ix1 h) :=
  shapeCast_apply _ _ _ _ (by
    rw [Shape.rowMajor_val_two, Shape.rowMajor_val_one]
    show h.val = 0 * 64 + h.val
    omega)

/-- A sum along the middle axis. -/
theorem sumMid_apply (x : FVec Ideal S512x16x64 .f32) (p : Fin 512) (h : Fin 64) :
    multiReduction .add [1] S512x64 x 0x00000000#32 reduces_S512x16x64_S512x64 (.inl rfl) rfl (ix2 p h)
      = ∑ e : Fin 16, x (ix3 p e h) :=
  Ideal.reduceAdd_r3_a1 reduces_S512x16x64_S512x64 x (ix2 p h)

/-- The indices whose last coordinate is `h`. -/
theorem lead_fiber (h : Fin 64) (i : S512x16x64.Idx) :
    reduces_S512x16x64_S64.drop i = ix1 h ↔ ∃ k : Fin 512 × Fin 16, ix3 k.1 k.2 h = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    apply Fin.ext
    match b with
    | ⟨0, _⟩ => rfl

/-- A sum along the two leading axes. -/
theorem sumLead_apply (x : FVec Ideal S512x16x64 .f32) (h : Fin 64) :
    multiReduction .add [0, 1] S64 x 0x00000000#32 reduces_S512x16x64_S64 (.inl rfl) rfl (ix1 h)
      = ∑ p : Fin 512, ∑ e : Fin 16, x (ix3 p e h) := by
  refine (Finset.sum_filter_eq_sum_of_fiber _ (fun k : Fin 512 × Fin 16 => (ix3 k.1 k.2 h : S512x16x64.Idx))
    (fun _ _ e => Prod.ext (congrFun e 0) (congrFun e 1)) (lead_fiber h) x).trans ?_
  simp only [Fintype.sum_prod_type]

/-- A column of the left half of a wide array. -/
def colL (h : Fin 64) : Fin 128 := ⟨h.val, by have := h.isLt; omega⟩
/-- A column of the right half of a wide array. -/
def colR (h : Fin 64) : Fin 128 := ⟨64 + h.val, by have := h.isLt; omega⟩

/-- Two halves side by side, read in the left one. -/
theorem pairL_apply (x y : FVec Ideal S512x64 .bf16) (p : Fin 512) (h : Fin 64) :
    concatenate S512x128 1 [⟨S512x64, x⟩, ⟨S512x64, y⟩] concatenates_S512x64_S512x64_S512x128_d1 (ix2 p (colL h)) = x (ix2 p h) :=
  concatenate_pair_apply_left (t := S512x128) 1 x y _ _ rfl _ fun b => match b with
    | ⟨0, _⟩ => rfl
    | ⟨1, _⟩ => rfl

/-- Two halves side by side, read in the right one. -/
theorem pairR_apply (x y : FVec Ideal S512x64 .bf16) (p : Fin 512) (h : Fin 64) :
    concatenate S512x128 1 [⟨S512x64, x⟩, ⟨S512x64, y⟩] concatenates_S512x64_S512x64_S512x128_d1 (ix2 p (colR h)) = y (ix2 p h) :=
  concatenate_pair_apply_right (t := S512x128) 1 x y _ _ rfl rfl _ (fun b hb => match b with
    | ⟨0, _⟩ => rfl
    | ⟨1, _⟩ => absurd rfl hb) (by show h.val + 64 = 64 + h.val; omega)

/-- Two square halves side by side, read in the left one. -/
theorem pairL_apply' (x y : FVec Ideal S64x64 .bf16) (p : Fin 64) (h : Fin 64) :
    concatenate S64x128 1 [⟨S64x64, x⟩, ⟨S64x64, y⟩] concatenates_S64x64_S64x64_S64x128_d1 (ix2 p (colL h)) = x (ix2 p h) :=
  concatenate_pair_apply_left (t := S64x128) 1 x y _ _ rfl _ fun b => match b with
    | ⟨0, _⟩ => rfl
    | ⟨1, _⟩ => rfl

/-- Two square halves side by side, read in the right one. -/
theorem pairR_apply' (x y : FVec Ideal S64x64 .bf16) (p : Fin 64) (h : Fin 64) :
    concatenate S64x128 1 [⟨S64x64, x⟩, ⟨S64x64, y⟩] concatenates_S64x64_S64x64_S64x128_d1 (ix2 p (colR h)) = y (ix2 p h) :=
  concatenate_pair_apply_right (t := S64x128) 1 x y _ _ rfl rfl _ (fun b hb => match b with
    | ⟨0, _⟩ => rfl
    | ⟨1, _⟩ => absurd rfl hb) (by show h.val + 64 = 64 + h.val; omega)

/-! ## The coefficients -/

/-- The constants the kernel's body names, as extended reals. -/
theorem two_eq : Ideal.ofBits .f32 0x40000000#32 = ((2 : ℝ) : EReal) := by
  simp [Ideal.ofBits, Ideal.ieee, -EReal.coe_mul]; norm_num
theorem threeHalves_eq : Ideal.ofBits .f32 0x3FC00000#32 = ((3 / 2 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num

/-- The first-order coefficient of the parabola through a column of the table. -/
def g1 (E : Vec Ideal S3x16 .f32) (e : Fin 16) : EReal :=
  ((2 : ℝ) : EReal) * E (ix2 1 e) - ((3 / 2 : ℝ) : EReal) * E (ix2 0 e) - ((1 / 2 : ℝ) : EReal) * E (ix2 2 e)

/-- The second-order coefficient of the parabola through a column of the table. -/
def g2 (E : Vec Ideal S3x16 .f32) (e : Fin 16) : EReal :=
  ((1 / 2 : ℝ) : EReal) * (E (ix2 0 e) + E (ix2 2 e)) - E (ix2 1 e)

/-- A coefficient folded over a group's sixteen rows of the first weight. -/
def fold (g : Fin 16 → EReal) (W : Vec Ideal S8192x64 .f32) (p : Fin 512) (h : Fin 64) : EReal :=
  ∑ e : Fin 16, g e * W (ix2 (slot p e) h)

/-- The first scratch: the folded coefficient in the left half … -/
theorem linBuf_left (W : Vec Ideal S8192x64 .f32) (E : Vec Ideal S3x16 .f32) (p : Fin 512) (h : Fin 64) :
    linBuf W E (ix2 p (colL h)) = fold (g1 E) W p h := by
  unfold linBuf k0_pay6
  dsimp only
  rw [shapeCast_self, pairL_apply, truncf_apply, sumMid_apply]
  refine Finset.sum_congr rfl fun e _ => ?_
  rw [mulf_apply, spread_apply, cut_apply]
  refine congrArg (· * _) ?_
  unfold g1
  rw [← two_eq, ← threeHalves_eq, ← half_eq, ← row0_apply E e, ← row1_apply E e, ← row2_apply E e]
  rfl

/-- … and what rounding it left over in the right half. -/
theorem linBuf_right (W : Vec Ideal S8192x64 .f32) (E : Vec Ideal S3x16 .f32) (p : Fin 512) (h : Fin 64) :
    linBuf W E (ix2 p (colR h)) = fold (g1 E) W p h - fold (g1 E) W p h := by
  rw [← linBuf_left]
  unfold linBuf k0_pay6
  dsimp only
  rw [shapeCast_self, pairL_apply, pairR_apply]
  rfl

/-- The second scratch: the folded coefficient in the left half … -/
theorem quadBuf_left (W : Vec Ideal S8192x64 .f32) (E : Vec Ideal S3x16 .f32) (p : Fin 512) (h : Fin 64) :
    quadBuf W E (ix2 p (colL h)) = fold (g2 E) W p h := by
  unfold quadBuf k0_pay7
  dsimp only
  rw [shapeCast_self, pairL_apply, truncf_apply, sumMid_apply]
  refine Finset.sum_congr rfl fun e _ => ?_
  rw [mulf_apply, spread_apply, cut_apply]
  refine congrArg (· * _) ?_
  unfold g2
  rw [← half_eq, ← row0_apply E e, ← row1_apply E e, ← row2_apply E e]
  rfl

/-- … and what rounding it left over in the right half. -/
theorem quadBuf_right (W : Vec Ideal S8192x64 .f32) (E : Vec Ideal S3x16 .f32) (p : Fin 512) (h : Fin 64) :
    quadBuf W E (ix2 p (colR h)) = fold (g2 E) W p h - fold (g2 E) W p h := by
  rw [← quadBuf_left]
  unfold quadBuf k0_pay7
  dsimp only
  rw [shapeCast_self, pairL_apply, pairR_apply]
  rfl

/-- The third scratch: the first row of the table folded over every group, and the first bias. -/
theorem constBuf_apply (W : Vec Ideal S8192x64 .f32) (E : Vec Ideal S3x16 .f32) (b : Vec Ideal S64 .f32) (h : Fin 64) :
    constBuf W E b (ix2 0 h) = (∑ p : Fin 512, fold (fun e => E (ix2 0 e)) W p h) + b (ix1 h) := by
  unfold constBuf k0_pay9
  dsimp only
  rw [shapeCast_self, addf_apply, row64_apply, row64_apply, sumLead_apply]
  refine congrArg (· + _) (Finset.sum_congr rfl fun p _ => Finset.sum_congr rfl fun e _ => ?_)
  rw [mulf_apply, cut_apply]
  unfold k0_pay8
  rw [spread_apply, row0_apply]

/-- The fourth scratch: the second weight in the left half … -/
theorem wideBuf_left (W : Vec Ideal S64x64 .f32) (p : Fin 64) (h : Fin 64) : wideBuf W (ix2 p (colL h)) = W (ix2 p h) := by
  unfold wideBuf k0_pay10
  rw [shapeCast_self, pairL_apply']
  rfl

/-- … and what rounding it left over in the right half. -/
theorem wideBuf_right (W : Vec Ideal S64x64 .f32) (p : Fin 64) (h : Fin 64) :
    wideBuf W (ix2 p (colR h)) = W (ix2 p h) - W (ix2 p h) := by
  unfold wideBuf k0_pay10
  rw [shapeCast_self, pairR_apply']
  rfl

end Cert.KernelIdeal.Hand

end
-- ==== Proof.Block.lean ====
/- What one grid point stores, at an index, over the extended reals. -/
module

public import proofs.«01_k».proof.Proof.Fold

@[expose] public section

set_option maxRecDepth 16384

noncomputable section

namespace Cert.KernelIdeal.Hand

open Cert.KernelIdeal Cert.KernelIdeal.Gen
open Idealize.ShloMosaic hiding ix0 ix1 ix2 ix3 ix4 addf_apply subf_apply mulf_apply truncf_apply extf_apply constant_apply
open Idealize.ShloMosaic.ValueIdx

/-! ## The two products at an index -/

/-- The wide product over the 512 positions, on a zero accumulator. -/
theorem dot512_apply (x : FVec Ideal S2048x512 .bf16) (y : FVec Ideal S512x128 .bf16) (r : Fin 2048) (j : Fin 128) :
    matmul dot_S2048x512_S512x128_S2048x128_1_0_0_1_n_n none x y (constant S2048x128 .f32 0x00000000#32) (ix2 r j)
      = ∑ p : Fin 512, x (ix2 r p) * y (ix2 p j) := by
  refine (Ideal.matmul_apply₁_of dot_S2048x512_S512x128_S2048x128_1_0_0_1_n_n rfl rfl x y _ (ix2 r j)
    (fun p => ix2 r p) (fun p => ix2 p j) (fun p => ?_) (fun p => ?_)).trans ?_
  · funext a
    match a with
    | ⟨0, _⟩ => rfl
    | ⟨1, _⟩ => rfl
  · funext a
    match a with
    | ⟨0, _⟩ => rfl
    | ⟨1, _⟩ => rfl
  · rw [constant_apply, Ideal.ofBits_zero_f32, zero_add]
    rfl

/-- The wide product over the 64 hidden units, on a zero accumulator. -/
theorem dot64_apply (x : FVec Ideal S2048x64 .bf16) (y : FVec Ideal S64x128 .bf16) (r : Fin 2048) (j : Fin 128) :
    matmul dot_S2048x64_S64x128_S2048x128_1_0_0_1_n_n none x y (constant S2048x128 .f32 0x00000000#32) (ix2 r j)
      = ∑ p : Fin 64, x (ix2 r p) * y (ix2 p j) := by
  refine (Ideal.matmul_apply₁_of dot_S2048x64_S64x128_S2048x128_1_0_0_1_n_n rfl rfl x y _ (ix2 r j)
    (fun p => ix2 r p) (fun p => ix2 p j) (fun p => ?_) (fun p => ?_)).trans ?_
  · funext a
    match a with
    | ⟨0, _⟩ => rfl
    | ⟨1, _⟩ => rfl
  · funext a
    match a with
    | ⟨0, _⟩ => rfl
    | ⟨1, _⟩ => rfl
  · rw [constant_apply, Ideal.ofBits_zero_f32, zero_add]
    rfl

/-- The left half of a wide block. -/
theorem halfL_apply (x : FVec Ideal S2048x128 .f32) (r : Fin 2048) (h : Fin 64) :
    extractStridedSlice S2048x64 ![0, 0] x slices_S2048x128_o0_0_S2048x64 (ix2 r h) = x (ix2 r (colL h)) :=
  extractStridedSlice_apply _ _ _ _ _ fun a => match a with
    | ⟨0, _⟩ => by show r.val = 0 + r.val; omega
    | ⟨1, _⟩ => by show h.val = 0 + h.val; omega

/-- The right half of a wide block. -/
theorem halfR_apply (x : FVec Ideal S2048x128 .f32) (r : Fin 2048) (h : Fin 64) :
    extractStridedSlice S2048x64 ![0, 64] x slices_S2048x128_o0_64_S2048x64 (ix2 r h) = x (ix2 r (colR h)) :=
  extractStridedSlice_apply _ _ _ _ _ fun a => match a with
    | ⟨0, _⟩ => by show r.val = 0 + r.val; omega
    | ⟨1, _⟩ => rfl

/-- One row spread over all rows. -/
theorem rowSpread_apply (x : FVec Ideal S1x64 .f32) (r : Fin 2048) (h : Fin 64) :
    broadcastTo S2048x64 x broadcasts_S1x64_S2048x64 (ix2 r h) = x (ix2 0 h) :=
  broadcastTo_apply _ _ _ _ fun a => match a with
    | ⟨0, _⟩ => rfl
    | ⟨1, _⟩ => rfl

/-! ## The block -/

/-- An index word as an extended real. -/
def num (w : BitVec 32) : EReal := ((w.toInt : ℝ) : EReal)

/-- The first layer's value before `tanh`, from a row of indices and three of the scratch buffers. -/
def layer1 (x : Fin 512 → EReal) (l q : Fin 512 → Fin 128 → EReal) (k : Fin 64 → EReal) (h : Fin 64) : EReal :=
  (∑ p, x p * l p (colL h)) + (∑ p, x p * l p (colR h)) + (∑ p, x p * x p * q p (colL h))
    + (∑ p, x p * x p * q p (colR h)) + k h

/-- The second layer's value before its bias, from the hidden row and the fourth scratch. -/
def layer2 (v : Fin 64 → EReal) (w : Fin 64 → Fin 128 → EReal) (h : Fin 64) : EReal :=
  (∑ p, v p * w p (colL h)) + (∑ p, v p * w p (colR h)) + (∑ p, (v p - v p) * w p (colL h))
    + (∑ p, (v p - v p) * w p (colR h))

/-- The hidden values of a block of rows. -/
def hidden (x : Vec Ideal S2048x512 .i32) (l q : Vec Ideal S512x128 .bf16) (k : Vec Ideal S1x64 .f32) : FVec Ideal S2048x64 .f32 :=
  have n : FVec Ideal S2048x512 .bf16 := truncf .bf16 (sitofp .f32 x : FVec Ideal S2048x512 .f32) bitsLt_bf16_f32
  have a : FVec Ideal S2048x128 .f32 :=
    matmul (φ₂ := .bf16) dot_S2048x512_S512x128_S2048x128_1_0_0_1_n_n none n l (constant S2048x128 .f32 0x00000000#32)
  have b : FVec Ideal S2048x128 .f32 :=
    matmul (φ₂ := .bf16) dot_S2048x512_S512x128_S2048x128_1_0_0_1_n_n none (mulf n n) q (constant S2048x128 .f32 0x00000000#32)
  tanh (addf (addf (addf (addf (extractStridedSlice S2048x64 ![0, 0] a slices_S2048x128_o0_0_S2048x64)
    (extractStridedSlice S2048x64 ![0, 64] a slices_S2048x128_o0_64_S2048x64))
    (extractStridedSlice S2048x64 ![0, 0] b slices_S2048x128_o0_0_S2048x64))
    (extractStridedSlice S2048x64 ![0, 64] b slices_S2048x128_o0_64_S2048x64))
    (broadcastTo S2048x64 k broadcasts_S1x64_S2048x64))

/-- The second layer's values of a block of rows, before the bias. -/
def second (v : FVec Ideal S2048x64 .f32) (w : Vec Ideal S64x128 .bf16) : FVec Ideal S2048x64 .f32 :=
  have hi : FVec Ideal S2048x64 .bf16 := truncf .bf16 v bitsLt_bf16_f32
  have lo : FVec Ideal S2048x64 .bf16 :=
    truncf .bf16 (subf v (extf .f32 hi bitsLt_bf16_f32 : FVec Ideal S2048x64 .f32)) bitsLt_bf16_f32
  have a : FVec Ideal S2048x128 .f32 :=
    matmul (φ₂ := .bf16) dot_S2048x64_S64x128_S2048x128_1_0_0_1_n_n none hi w (constant S2048x128 .f32 0x00000000#32)
  have b : FVec Ideal S2048x128 .f32 :=
    matmul (φ₂ := .bf16) dot_S2048x64_S64x128_S2048x128_1_0_0_1_n_n none lo w (constant S2048x128 .f32 0x00000000#32)
  addf (addf (addf (extractStridedSlice S2048x64 ![0, 0] a slices_S2048x128_o0_0_S2048x64)
    (extractStridedSlice S2048x64 ![0, 64] a slices_S2048x128_o0_64_S2048x64))
    (extractStridedSlice S2048x64 ![0, 0] b slices_S2048x128_o0_0_S2048x64))
    (extractStridedSlice S2048x64 ![0, 64] b slices_S2048x128_o0_64_S2048x64)

/-- The body's two layers are the second of the first. -/
theorem layers_eq (x : Vec Ideal S2048x512 .i32) (l q : Vec Ideal S512x128 .bf16) (k : Vec Ideal S1x64 .f32)
    (w : Vec Ideal S64x128 .bf16) : k0_pay11 x l q k w w = second (hidden x l q k) w := rfl

/-- A hidden value is the `tanh` of the first layer's. -/
theorem hidden_apply (x : Vec Ideal S2048x512 .i32) (l q : Vec Ideal S512x128 .bf16) (k : Vec Ideal S1x64 .f32)
    (r : Fin 2048) (h : Fin 64) :
    hidden x l q k (ix2 r h) = Ideal.tanh (layer1 (fun p => num (x (ix2 r p))) (fun p j => l (ix2 p j))
      (fun p j => q (ix2 p j)) (fun h => k (ix2 0 h)) h) := by
  unfold hidden layer1
  dsimp only
  refine congrArg Ideal.tanh ?_
  show addf _ _ (ix2 r h) = _
  simp only [addf_apply, halfL_apply, halfR_apply, dot512_apply, rowSpread_apply]
  rfl

/-- The second layer's value at an index. -/
theorem second_apply (v : FVec Ideal S2048x64 .f32) (w : Vec Ideal S64x128 .bf16) (r : Fin 2048) (h : Fin 64) :
    second v w (ix2 r h) = layer2 (fun p => v (ix2 r p)) (fun p j => w (ix2 p j)) h := by
  unfold second layer2
  dsimp only
  simp only [addf_apply, halfL_apply, halfR_apply, dot64_apply]
  rfl

/-- The stored block at row `r`, column `h`. -/
theorem outBlock_apply (x : Vec Ideal S2048x512 .i32) (l q : Vec Ideal S512x128 .bf16) (k : Vec Ideal S1x64 .f32)
    (w : Vec Ideal S64x128 .bf16) (b : Vec Ideal S64 .f32) (r : Fin 2048) (h : Fin 64) :
    outBlock x l q k w b (ix2 r h)
      = Ideal.tanh (layer2 (fun h' => Ideal.tanh (layer1 (fun p => num (x (ix2 r p))) (fun p j => l (ix2 p j))
          (fun p j => q (ix2 p j)) (fun h => k (ix2 0 h)) h')) (fun p j => w (ix2 p j)) h + b (ix1 h)) := by
  unfold outBlock k0_pay1
  refine congrArg Ideal.tanh ?_
  show addf _ _ (ix2 r h) = _
  rw [addf_apply, rowSpread_apply, layers_eq, second_apply]
  unfold k0_pay12
  rw [row64_apply]
  simp only [hidden_apply]

end Cert.KernelIdeal.Hand

end
-- ==== Proof.Gather.lean ====
/- The reference's table look-up, at an index. -/
module

public import proofs.«01_k».proof.Proof.Gen.ReferenceIdeal
public import proofs.«01_k».proof.Proof.Gen.ReferenceIdeal.Read
public import Idealize.ShloMosaic.Lib.ReduceAll
public import Idealize.ShloMosaic.Lib.ValueIdx

@[expose] public section

set_option maxRecDepth 16384

noncomputable section

namespace Cert.ReferenceIdeal.Hand

open Cert.ReferenceIdeal Cert.ReferenceIdeal.Gen Cert.ReferenceIdeal.Read
open Idealize.ShloMosaic
open Idealize.ShloMosaic.ValueIdx (ix1 ix2 ix3)

/-- The table has three rows: an index word names one of them. -/
def InTable (w : BitVec 32) : Prop := w = 0#32 ∨ w = 1#32 ∨ w = 2#32

/-- The row that an index word names, the words past the end naming the last row. -/
def rowOf (w : BitVec 32) : Fin 3 := ⟨min w.toInt.toNat 2, by omega⟩

/-- The gather of whole rows: its element is the table's, in the row which the start index names. -/
theorem gather_rows (E : (⟨S3x16, .f32⟩ : BufTy).Contents (Elt Ideal)) (s : IVec S4096x512x1 32)
    (r : Fin 4096) (p : Fin 512) (e : Fin 16) :
    Host.gather gather_S3x16_S4096x512x1_S4096x512x16_2_0_n_n_0_2_116 E s (ix3 r p e)
      = E (ix2 (rowOf (s (ix3 r p 0))) e) := by
  have h0 : (0 : Fin 2) ∈ gather_S3x16_S4096x512x1_S4096x512x16_2_0_n_n_0_2_116.startIndexMap := List.mem_singleton.mpr rfl
  have hs : gather_S3x16_S4096x512x1_S4096x512x16_2_0_n_n_0_2_116.siIdx (ix3 r p e)
      ⟨List.idxOf (0 : Fin 2) gather_S3x16_S4096x512x1_S4096x512x16_2_0_n_n_0_2_116.startIndexMap,
        List.idxOf_lt_length_iff.2 h0⟩ = ix3 r p 0 := by
    funext b
    match b with
    | ⟨0, _⟩ => rfl
    | ⟨1, _⟩ => rfl
    | ⟨2, _⟩ => rfl
  unfold Host.gather
  refine congrArg E (funext fun a => Fin.ext ?_)
  show gather_S3x16_S4096x512x1_S4096x512x16_2_0_n_n_0_2_116.start (ix3 r p e) s a
      + gather_S3x16_S4096x512x1_S4096x512x16_2_0_n_n_0_2_116.batchCoord (ix3 r p e) a
      + gather_S3x16_S4096x512x1_S4096x512x16_2_0_n_n_0_2_116.offCoord (ix3 r p e) a = _
  have ha : a = (0 : Fin 2) ∨ a = (1 : Fin 2) := by
    match a with
    | ⟨0, _⟩ => exact Or.inl rfl
    | ⟨1, _⟩ => exact Or.inr rfl
  rw [GatherDims.batchCoord_eq_zero _ _ _ (fun h => List.not_mem_nil h)]
  rcases ha with rfl | rfl
  · rw [GatherDims.offCoord_eq_zero _ _ _
      (fun h => ((GatherDims.mem_sKept _ _).mp h).1 (List.mem_singleton.mpr rfl))]
    unfold GatherDims.start
    rw [dif_pos h0, hs]
    rfl
  · have h1 : (1 : Fin 2) ∉ gather_S3x16_S4096x512x1_S4096x512x16_2_0_n_n_0_2_116.startIndexMap := by
      intro h
      exact absurd (List.mem_singleton.mp h) (by decide)
    have hk : (1 : Fin 2) ∈ gather_S3x16_S4096x512x1_S4096x512x16_2_0_n_n_0_2_116.sKept :=
      (GatherDims.mem_sKept _ _).mpr ⟨fun h => absurd (List.mem_singleton.mp h) (by decide), List.not_mem_nil⟩
    unfold GatherDims.start GatherDims.offCoord
    rw [dif_neg h1, dif_pos hk]
    show 0 + 0 + _ = _
    rw [Nat.zero_add]
    rfl

/-- An index word in the table is not negative, so the reference looks up that word itself. -/
theorem start_eq (X : (⟨S4096x512, .i32⟩ : BufTy).Contents (Elt Ideal)) (hX : ∀ i, InTable (X i)) (i : S4096x512x1.Idx) :
    val_main_call0_v5 (F := Ideal) X i = X (idx_main_call0_v5 i) := by
  rw [val_main_call0_v5_apply, val_main_call0_v4_apply, val_main_call0_v1_apply, val_main_call0_v0_apply,
    val_main_call0_c_apply, val_main_call0_v3_apply, val_main_call0_v2_apply, val_main_call0_c_0_apply]
  rcases hX (idx_main_call0_v5 i) with h | h | h <;> rw [h] <;> rfl

/-- The reference's own range check holds at every index word in the table. -/
theorem check_eq (X : (⟨S4096x512, .i32⟩ : BufTy).Contents (Elt Ideal)) (hX : ∀ i, InTable (X i)) (i : S4096x512x1.Idx) :
    val_main_call0_v11 (F := Ideal) X i = 1#1 := by
  rw [val_main_call0_v11_apply, val_main_call0_v7_apply, val_main_call0_v10_apply, start_eq X hX,
    val_main_call0_v6_apply, val_main_call0_c_2_apply, val_main_call0_v9_apply, val_main_call0_v8_apply,
    val_main_call0_c_1_apply]
  rcases hX (idx_main_call0_v5 i) with h | h | h <;> rw [h] <;> rfl

/-- The look-up: at row `r`, position `p` and feature `e` it is the table's row for the word there. -/
theorem take_eq (X : (⟨S4096x512, .i32⟩ : BufTy).Contents (Elt Ideal)) (E : (⟨S3x16, .f32⟩ : BufTy).Contents (Elt Ideal))
    (hX : ∀ i, InTable (X i)) (r : Fin 4096) (p : Fin 512) (e : Fin 16) :
    val_main_v0 (F := Ideal) X E (ix3 r p e) = E (ix2 (rowOf (X (ix2 r p))) e) := by
  have hm : val_main_call0_v14 (F := Ideal) X (ix3 r p e) = 1#1 := by
    rw [val_main_call0_v14_apply]
    unfold val_main_call0_v12
    exact Host.reduce_andi_one _ _ _ _ _ (val_main_call0_c_3_apply _) (check_eq X hX)
  have hi : idx_main_call0_v5 (ix3 r p 0) = ix2 r p := by
    funext a
    match a with
    | ⟨0, _⟩ => rfl
    | ⟨1, _⟩ => rfl
  rw [val_main_v0_apply, hm]
  show val_main_call0_v13 (F := Ideal) X E (ix3 r p e) = _
  unfold val_main_call0_v13
  rw [gather_rows, start_eq X hX, hi]

end Cert.ReferenceIdeal.Hand

end
-- ==== Proof.Ref.lean ====
/- What the reference computes, at an index. -/
module

public import proofs.«01_k».proof.Proof.Gather

@[expose] public section

set_option maxRecDepth 16384

noncomputable section

namespace Cert.ReferenceIdeal.Hand

open Cert.ReferenceIdeal Cert.ReferenceIdeal.Gen Cert.ReferenceIdeal.Read
open Idealize.ShloMosaic
open Idealize.ShloMosaic.ValueIdx (ix1 ix2 ix3)

/-- The position whose look-up a flat feature belongs to. -/
def posOf (k : Fin 8192) : Fin 512 := ⟨k.val / 16, by omega⟩

/-- A flat feature's place within its position. -/
def featOf (k : Fin 8192) : Fin 16 := ⟨k.val % 16, by omega⟩

/-- The looked-up features laid flat, sixteen to a position. -/
theorem flat_eq (X : (⟨S4096x512, .i32⟩ : BufTy).Contents (Elt Ideal)) (E : (⟨S3x16, .f32⟩ : BufTy).Contents (Elt Ideal))
    (hX : ∀ i, InTable (X i)) (r : Fin 4096) (k : Fin 8192) :
    val_main_v1 (F := Ideal) X E (ix2 r k) = E (ix2 (rowOf (X (ix2 r (posOf k)))) (featOf k)) := by
  have hi : idx_main_v1 (ix2 r k) = ix3 r (posOf k) (featOf k) := by
    have hr := r.isLt
    have hk := k.isLt
    funext a
    refine Fin.ext ?_
    match a with
    | ⟨0, _⟩ => show (r.val * 8192 + k.val) / 8192 = r.val; omega
    | ⟨1, _⟩ => show (r.val * 8192 + k.val) / 16 % 512 = k.val / 16; omega
    | ⟨2, _⟩ => show (r.val * 8192 + k.val) % 16 = k.val % 16; omega
  rw [val_main_v1_apply, hi, take_eq X E hX]

/-- The first layer of the reference at row `r`, before its tanh. -/
def hidden (X : (⟨S4096x512, .i32⟩ : BufTy).Contents (Elt Ideal)) (E : (⟨S3x16, .f32⟩ : BufTy).Contents (Elt Ideal))
    (W1 : (⟨S8192x64, .f32⟩ : BufTy).Contents (Elt Ideal)) (b1 : (⟨S64, .f32⟩ : BufTy).Contents (Elt Ideal))
    (r : Fin 4096) (h : Fin 64) : EReal :=
  (∑ k : Fin 8192, E (ix2 (rowOf (X (ix2 r (posOf k)))) (featOf k)) * W1 (ix2 k h)) + b1 (ix1 h)

/-- The first layer's array is `hidden`. -/
theorem v5_eq (X : (⟨S4096x512, .i32⟩ : BufTy).Contents (Elt Ideal)) (E : (⟨S3x16, .f32⟩ : BufTy).Contents (Elt Ideal))
    (W1 : (⟨S8192x64, .f32⟩ : BufTy).Contents (Elt Ideal)) (b1 : (⟨S64, .f32⟩ : BufTy).Contents (Elt Ideal))
    (hX : ∀ i, InTable (X i)) (r : Fin 4096) (h : Fin 64) :
    val_main_v5 (F := Ideal) X E W1 b1 (ix2 r h) = hidden X E W1 b1 r h := by
  have hb : idx_main_v3 (idx_main_v4 (ix2 r h)) = ix1 h := by
    funext a
    match a with
    | ⟨0, _⟩ => rfl
  have hl : ∀ k : Fin 8192, lidx_main_v2 (ix2 r h) k = ix2 r k := fun k => by
    funext a
    match a with
    | ⟨0, _⟩ => rfl
    | ⟨1, _⟩ => rfl
  have hr : ∀ k : Fin 8192, ridx_main_v2 (ix2 r h) k = ix2 k h := fun k => by
    funext a
    match a with
    | ⟨0, _⟩ => rfl
    | ⟨1, _⟩ => rfl
  rw [val_main_v5_apply, val_main_v2_apply, val_main_v4_apply, val_main_v3_apply, hb]
  refine congrArg (· + b1 (ix1 h)) (Finset.sum_congr rfl fun k _ => ?_)
  rw [hl, hr, flat_eq X E hX]

/-- The second layer's sum, over the 64 hidden units. -/
theorem v7_eq (X : (⟨S4096x512, .i32⟩ : BufTy).Contents (Elt Ideal)) (E : (⟨S3x16, .f32⟩ : BufTy).Contents (Elt Ideal))
    (W1 : (⟨S8192x64, .f32⟩ : BufTy).Contents (Elt Ideal)) (b1 : (⟨S64, .f32⟩ : BufTy).Contents (Elt Ideal))
    (W2 : (⟨S64x64, .f32⟩ : BufTy).Contents (Elt Ideal)) (hX : ∀ i, InTable (X i)) (r : Fin 4096) (h : Fin 64) :
    val_main_v7 (F := Ideal) X E W1 b1 W2 (ix2 r h)
      = ∑ k : Fin 64, Ideal.tanh (hidden X E W1 b1 r k) * W2 (ix2 k h) := by
  have hl : ∀ k : Fin 64, lidx_main_v7 (ix2 r h) k = ix2 r k := fun k => by
    funext a
    match a with
    | ⟨0, _⟩ => rfl
    | ⟨1, _⟩ => rfl
  have hr : ∀ k : Fin 64, ridx_main_v7 (ix2 r h) k = ix2 k h := fun k => by
    funext a
    match a with
    | ⟨0, _⟩ => rfl
    | ⟨1, _⟩ => rfl
  rw [val_main_v7_apply]
  refine Finset.sum_congr rfl fun k _ => ?_
  rw [hl, hr, val_main_v6_apply, v5_eq X E W1 b1 hX, Ideal.hostUnary_tanh_def]

/-- The reference's result before it is laid flat: two tanh layers over the looked-up features. -/
theorem v11_eq (X : (⟨S4096x512, .i32⟩ : BufTy).Contents (Elt Ideal)) (E : (⟨S3x16, .f32⟩ : BufTy).Contents (Elt Ideal))
    (W1 : (⟨S8192x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (hX : ∀ i, InTable (X i)) (r : Fin 4096) (h : Fin 64) :
    val_main_v11 (F := Ideal) X E W1 b1 W2 b2 (ix2 r h)
      = Ideal.tanh ((∑ k : Fin 64, Ideal.tanh (hidden X E W1 b1 r k) * W2 (ix2 k h)) + b2 (ix1 h)) := by
  have hb : idx_main_v8 (idx_main_v9 (ix2 r h)) = ix1 h := by
    funext a
    match a with
    | ⟨0, _⟩ => rfl
  rw [val_main_v11_apply, val_main_v10_apply, v7_eq X E W1 b1 W2 hX, val_main_v9_apply, val_main_v8_apply, hb,
    Ideal.hostUnary_tanh_def, Ideal.addf_def]

end Cert.ReferenceIdeal.Hand

end
-- ==== Proof.Pre.lean ====
/- What the precondition says of the arguments. -/
module

public import proofs.«01_k».proof.Pre_inputs_ok
public import Idealize.ShloMosaic.Lib.Affine
public import Idealize.ShloMosaic.PureOps.Ideal.Laws

@[expose] public section

noncomputable section

namespace Cert.Pre_inputs_ok.Hand

open Cert.Pre_inputs_ok
open Idealize.ShloMosaic

/-- The shapes of the precondition's broadcasts agree. -/
theorem facts : Cert.Pre_inputs_ok.Facts where
  bcast_S_S4096x512 := by decide
  bcast_S_S3x16 := by decide
  bcast_S_S8192x64 := by decide
  bcast_S_S64x64 := by decide

/-- Neither infinity. -/
def Finite (a : EReal) : Prop := a ≠ ⊤ ∧ a ≠ ⊥

/-- A finite value is a real number. -/
theorem Finite.real {a : EReal} (h : Finite a) : ∃ t : ℝ, a = (t : EReal) :=
  ⟨a.toReal, (EReal.coe_toReal h.1 h.2).symm⟩

/-- The single-precision bit pattern for infinity. -/
theorem inf_bits : (FloatOps.ofBits .f32 0x7F800000#32 : Ideal .f32) = (⊤ : EReal) := by
  simp [Ideal.ofBits, Ideal.ieee]

/-- A value whose absolute value compares below infinity is finite. -/
theorem finite_of_cmp {a : Ideal .f32}
    (h : FloatOps.cmpf .olt (FloatOps.hostAbsf a) (FloatOps.ofBits .f32 0x7F800000#32) = 1#1) : Finite a := by
  rw [inf_bits, Ideal.cmpf_def, Ideal.hostAbsf_def, Ideal.absf_def] at h
  constructor
  · rintro rfl
    simp [Ideal.cmp] at h
  · rintro rfl
    simp [Ideal.cmp] at h

/-- A word between 0 and 2 is one of the three. -/
theorem word_of_cmp {w : BitVec 32}
    (h : IntOp.andi (IntOp.cmpi .sge w 0#32) (IntOp.cmpi .slt w 3#32) = 1#1) : w = 0#32 ∨ w = 1#32 ∨ w = 2#32 := by
  obtain ⟨h0, h3⟩ := IntOp.andi_eq_one.mp h
  have h0 := IntOp.cmpi_sge.mp h0
  have h3 := IntOp.cmpi_slt.mp h3
  have e0 : (0#32).toInt = 0 := by decide
  have e3 : (3#32).toInt = 3 := by decide
  rw [e0] at h0
  rw [e3] at h3
  have hw : w = BitVec.ofInt 32 w.toInt := (BitVec.ofInt_toInt).symm
  have hc : w.toInt = 0 ∨ w.toInt = 1 ∨ w.toInt = 2 := by omega
  rcases hc with hc | hc | hc <;> rw [hc] at hw
  · exact Or.inl hw
  · exact Or.inr (Or.inl hw)
  · exact Or.inr (Or.inr hw)

variable [Facts] (X : IVec S4096x512 32) (E : FVec Ideal S3x16 .f32) (W1 : FVec Ideal S8192x64 .f32)
  (b1 : FVec Ideal S64 .f32) (W2 : FVec Ideal S64x64 .f32) (b2 : FVec Ideal S64 .f32)

/-- The first conjunct: every index word is 0, 1 or 2. -/
theorem words (h : (fn (F := Ideal) X E W1 b1 W2 b2).1 = fun _ => 1#1) (i : S4096x512.Idx) :
    X i = 0#32 ∨ X i = 1#32 ∨ X i = 2#32 := word_of_cmp (congrFun h i)

/-- The second conjunct: the table is finite. -/
theorem table (h : (fn (F := Ideal) X E W1 b1 W2 b2).2.1 = fun _ => 1#1) (i : S3x16.Idx) : Finite (E i) :=
  finite_of_cmp (congrFun h i)

/-- The third conjunct: the first layer's weights are finite. -/
theorem weights1 (h : (fn (F := Ideal) X E W1 b1 W2 b2).2.2.1 = fun _ => 1#1) (i : S8192x64.Idx) : Finite (W1 i) :=
  finite_of_cmp (congrFun h i)

/-- The fourth conjunct: the second layer's weights are finite. -/
theorem weights2 (h : (fn (F := Ideal) X E W1 b1 W2 b2).2.2.2 = fun _ => 1#1) (i : S64x64.Idx) : Finite (W2 i) :=
  finite_of_cmp (congrFun h i)

end Cert.Pre_inputs_ok.Hand

end
-- ==== Proof.Layers.lean ====
/- The two layers in closed form: folding the weights over the parabola through each column of the table is the
   look-up itself, and the low halves of the wide products vanish. -/
module

public import proofs.«01_k».proof.Proof.Block
public import proofs.«01_k».proof.Proof.Ref
public import proofs.«01_k».proof.Proof.Pre

@[expose] public section

noncomputable section

namespace Cert.Equation

open Cert.KernelIdeal Cert.KernelIdeal.Hand
open Cert.ReferenceIdeal.Hand (InTable rowOf posOf featOf)
open Cert.Pre_inputs_ok.Hand (Finite)
open Idealize.ShloMosaic hiding ix0 ix1 ix2 ix3 ix4
open Idealize.ShloMosaic.ValueIdx (ix1 ix2)

/-! ## Finite values -/

/-- A finite value less itself is zero. -/
theorem sub_self_of_finite {a : EReal} (h : Finite a) : a - a = 0 := EReal.sub_self h.1 h.2

/-- A real number is finite. -/
theorem finite_real (t : ℝ) : Finite (t : EReal) := ⟨EReal.coe_ne_top t, EReal.coe_ne_bot t⟩

/-- The hyperbolic tangent is finite everywhere. -/
theorem finite_tanh (a : EReal) : Finite (Ideal.tanh a) := by
  induction a with
  | bot => exact finite_real (-1)
  | coe t => exact finite_real (Real.tanh t)
  | top => exact finite_real 1

/-- A sum of reals is the sum of their values. -/
theorem real_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

/-! ## The second layer -/

/-- With finite weights and finite hidden values only the product of the high halves remains. -/
theorem layer2_eq (v : Fin 64 → EReal) (W : Vec Ideal S64x64 .f32) (hv : ∀ p, Finite (v p)) (hW : ∀ i, Finite (W i))
    (h : Fin 64) : layer2 v (fun p j => wideBuf W (ix2 p j)) h = ∑ p, v p * W (ix2 p h) := by
  have hr : ∀ p : Fin 64, wideBuf W (ix2 p (colR h)) = 0 := fun p =>
    (wideBuf_right W p h).trans (sub_self_of_finite (hW _))
  have hs : ∀ p, v p - v p = 0 := fun p => sub_self_of_finite (hv p)
  unfold layer2
  simp only [hr, hs, wideBuf_left, mul_zero, zero_mul, Finset.sum_const_zero, add_zero]

/-! ## The first layer -/

/-- The features in order are the sixteen features of each position in turn. -/
theorem sum_slots (f : Fin 8192 → ℝ) : ∑ k, f k = ∑ p : Fin 512, ∑ e : Fin 16, f (slot p e) := by
  rw [← Fintype.sum_prod_type' (f := fun p e => f (slot p e))]
  refine (Fintype.sum_equiv (finProdFinEquiv (m := 512) (n := 16)) _ _ fun q => congrArg f (Fin.ext ?_)).symm
  show 16 * q.1.val + q.2.val = q.2.val + 16 * q.1.val
  omega

/-- A slot lies in its position … -/
theorem posOf_slot (p : Fin 512) (e : Fin 16) : posOf (slot p e) = p := by
  have := e.isLt
  refine Fin.ext ?_
  show (16 * p.val + e.val) / 16 = p.val
  omega

/-- … at its feature. -/
theorem featOf_slot (p : Fin 512) (e : Fin 16) : featOf (slot p e) = e := by
  have := e.isLt
  refine Fin.ext ?_
  show (16 * p.val + e.val) % 16 = e.val
  omega

/-- The parabola through the table's three rows passes through the row that the word names. -/
theorem parabola (E : Fin 3 → ℝ) {w : BitVec 32} (hw : InTable w) :
    (w.toInt : ℝ) * (2 * E 1 - 3 / 2 * E 0 - 1 / 2 * E 2)
      + (w.toInt : ℝ) * (w.toInt : ℝ) * (1 / 2 * (E 0 + E 2) - E 1) + E 0 = E (rowOf w) := by
  rcases hw with rfl | rfl | rfl
  · rw [show rowOf 0#32 = 0 from by decide, show (0#32).toInt = 0 from by decide]
    push_cast
    ring
  · rw [show rowOf 1#32 = 1 from by decide, show (1#32).toInt = 1 from by decide]
    push_cast
    ring
  · rw [show rowOf 2#32 = 2 from by decide, show (2#32).toInt = 2 from by decide]
    push_cast
    ring

/-- A fold of real coefficients over real weights is a real number. -/
theorem fold_real (g : Fin 16 → EReal) (W : Vec Ideal S8192x64 .f32) (c : Fin 16 → ℝ) (R : Fin 8192 → Fin 64 → ℝ)
    (hg : ∀ e, g e = (c e : EReal)) (hW : ∀ k h, W (ix2 k h) = (R k h : EReal)) (p : Fin 512) (h : Fin 64) :
    fold g W p h = ((∑ e : Fin 16, c e * R (slot p e) h : ℝ) : EReal) := by
  unfold fold
  rw [real_sum]
  refine Finset.sum_congr rfl fun e _ => ?_
  rw [hg, hW, EReal.coe_mul]

/-- The real identity: the three folds, weighted by the index and its square, sum to the look-up's product. -/
theorem folds_eq (x : Fin 512 → BitVec 32) (hx : ∀ p, InTable (x p)) (E : Fin 3 → Fin 16 → ℝ) (R : Fin 8192 → ℝ) :
    (∑ p, ((x p).toInt : ℝ) * ∑ e : Fin 16, (2 * E 1 e - 3 / 2 * E 0 e - 1 / 2 * E 2 e) * R (slot p e))
      + (∑ p, ((x p).toInt : ℝ) * ((x p).toInt : ℝ) * ∑ e : Fin 16, (1 / 2 * (E 0 e + E 2 e) - E 1 e) * R (slot p e))
      + (∑ p : Fin 512, ∑ e : Fin 16, E 0 e * R (slot p e))
      = ∑ k : Fin 8192, E (rowOf (x (posOf k))) (featOf k) * R k := by
  rw [sum_slots, ← Finset.sum_add_distrib, ← Finset.sum_add_distrib]
  refine Finset.sum_congr rfl fun p _ => ?_
  rw [Finset.mul_sum, Finset.mul_sum, ← Finset.sum_add_distrib, ← Finset.sum_add_distrib]
  refine Finset.sum_congr rfl fun e _ => ?_
  rw [posOf_slot, featOf_slot, ← parabola (fun a => E a e) (hx p)]
  ring

/-- The first layer from the folded scratch buffers is the look-up's product and the bias. -/
theorem layer1_eq (x : Fin 512 → BitVec 32) (E : Vec Ideal S3x16 .f32) (W : Vec Ideal S8192x64 .f32)
    (b : Vec Ideal S64 .f32) (hx : ∀ p, InTable (x p)) (hE : ∀ i, Finite (E i)) (hW : ∀ i, Finite (W i)) (h : Fin 64) :
    layer1 (fun p => num (x p)) (fun p j => linBuf W E (ix2 p j)) (fun p j => quadBuf W E (ix2 p j))
        (fun h => constBuf W E b (ix2 0 h)) h
      = (∑ k : Fin 8192, E (ix2 (rowOf (x (posOf k))) (featOf k)) * W (ix2 k h)) + b (ix1 h) := by
  choose T hT using fun (a : Fin 3) (e : Fin 16) => (hE (ix2 a e)).real
  choose R hR using fun (k : Fin 8192) (h : Fin 64) => (hW (ix2 k h)).real
  have f1 := fold_real (g1 E) W (fun e => 2 * T 1 e - 3 / 2 * T 0 e - 1 / 2 * T 2 e) R (fun e => by
    unfold g1
    rw [hT, hT, hT]
    norm_cast) hR
  have f2 := fold_real (g2 E) W (fun e => 1 / 2 * (T 0 e + T 2 e) - T 1 e) R (fun e => by
    unfold g2
    rw [hT, hT, hT]
    norm_cast) hR
  have f0 := fold_real (fun e => E (ix2 0 e)) W (fun e => T 0 e) R (fun e => hT 0 e) hR
  have l0 : ∀ p : Fin 512, linBuf W E (ix2 p (colR h)) = 0 := fun p => by
    rw [linBuf_right, f1]
    exact sub_self_of_finite (finite_real _)
  have q0 : ∀ p : Fin 512, quadBuf W E (ix2 p (colR h)) = 0 := fun p => by
    rw [quadBuf_right, f2]
    exact sub_self_of_finite (finite_real _)
  have c0 : constBuf W E b (ix2 0 h) = ((∑ p : Fin 512, ∑ e : Fin 16, T 0 e * R (slot p e) h : ℝ) : EReal) + b (ix1 h) := by
    rw [constBuf_apply, real_sum, Finset.sum_congr rfl fun p _ => f0 p h]
  unfold layer1
  simp only [l0, q0, c0, linBuf_left, quadBuf_left, f1, f2, hT, hR, num, mul_zero,
    Finset.sum_const_zero, add_zero]
  rw [← add_assoc]
  refine congrArg (· + b (ix1 h)) ?_
  simp only [← EReal.coe_mul, ← real_sum, ← EReal.coe_add]
  exact congrArg Real.toEReal (folds_eq x hx T (fun k => R k h))

end Cert.Equation

end
-- ==== Proof.Equation.lean ====
/- The kernel's result is the reference's, for indices in the table and finite table and weights. -/
module

public import proofs.«01_k».proof.Proof.Array
public import proofs.«01_k».proof.Proof.Layers

@[expose] public section

noncomputable section

namespace Cert.Equation

open Cert.KernelIdeal Cert.KernelIdeal.Hand
open Cert.ReferenceIdeal.Hand (InTable)
open Cert.Pre_inputs_ok.Hand (Finite)
open Idealize.ShloMosaic hiding ix0 ix1 ix2 ix3 ix4
open Idealize.ShloMosaic.ValueIdx (ix1 ix2)

variable (X : Vec Ideal S4096x512 .i32) (E : Vec Ideal S3x16 .f32) (W1 : Vec Ideal S8192x64 .f32)
  (b1 : Vec Ideal S64 .f32) (W2 : Vec Ideal S64x64 .f32) (b2 : Vec Ideal S64 .f32)

/-- A point's block, at a row: the two layers over that row's looked-up features. -/
theorem pointBlock_apply (hX : ∀ i, InTable (X i)) (hE : ∀ i, Finite (E i)) (hW1 : ∀ i, Finite (W1 i))
    (hW2 : ∀ i, Finite (W2 i)) (n : Fin 2) (r : Fin 2048) (R : Fin 4096) (hR : 2048 * n.val + r.val = R.val) (h : Fin 64) :
    pointBlock X E W1 b1 W2 b2 n (ix2 r h)
      = Ideal.tanh ((∑ k : Fin 64, Ideal.tanh (Cert.ReferenceIdeal.Hand.hidden X E W1 b1 R k) * W2 (ix2 k h)) + b2 (ix1 h)) := by
  have hrow : ∀ p : Fin 512, rows X n (ix2 r p) = X (ix2 R p) := fun p =>
    congrArg (fun t => X (ix2 t p)) (Fin.ext hR)
  unfold pointBlock
  rw [outBlock_apply, layer2_eq _ W2 (fun _ => finite_tanh _) hW2]
  simp only [hrow]
  refine congrArg (fun t => Ideal.tanh (t + b2 (ix1 h))) (Finset.sum_congr rfl fun k _ => ?_)
  rw [layer1_eq (fun p => X (ix2 R p)) E W1 b1 (fun p => hX _) hE hW1]
  rfl

/-- The kernel's flat result is the reference's. -/
theorem result_eq (hX : ∀ i, InTable (X i)) (hE : ∀ i, Finite (E i)) (hW1 : ∀ i, Finite (W1 i))
    (hW2 : ∀ i, Finite (W2 i)) :
    result X E W1 b1 W2 b2 = Cert.ReferenceIdeal.Read.val_main_v12 (F := Ideal) X E W1 b1 W2 b2 := by
  have hs : stack (pointBlock X E W1 b1 W2 b2) = Cert.ReferenceIdeal.Read.val_main_v11 (F := Ideal) X E W1 b1 W2 b2 := by
    funext i
    have hi : i = ix2 (i 0) (i 1) := by
      funext a
      match a with
      | ⟨0, _⟩ => rfl
      | ⟨1, _⟩ => rfl
    conv_rhs => rw [hi]
    refine (pointBlock_apply X E W1 b1 W2 b2 hX hE hW1 hW2 _ _ (i 0) ?_ (i 1)).trans
      (Cert.ReferenceIdeal.Hand.v11_eq X E W1 b1 W2 b2 hX (i 0) (i 1)).symm
    show 2048 * ((i 0).val / 2048) + (i 0).val % 2048 = (i 0).val
    exact Nat.div_add_mod _ _
  unfold result Cert.ReferenceIdeal.Read.val_main_v12
  rw [hs]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.SL.Sem

/-- The shapes of the four programs agree. -/
instance : Cert.Kernel.Facts := Cert.Kernel.Gen.facts
instance : Cert.KernelIdeal.Facts := Cert.KernelIdeal.Gen.facts
instance : Cert.ReferenceIdeal.Facts := Cert.ReferenceIdeal.Gen.facts
instance : Cert.Pre_inputs_ok.Facts := Cert.Pre_inputs_ok.Hand.facts

/-- The kernel's frame. -/
theorem frame_p : Cert.quiescent_Kernel := fun m ρ _ => Cert.Kernel.Gen.frame m ρ

/-- The kernel's frame over the extended reals. -/
theorem frame_pi : Cert.quiescent_KernelIdeal := fun m ρ _ => Cert.KernelIdeal.Gen.frame m ρ

/-- The same under the precondition. -/
theorem frame_pi_pre : Cert.quiescent_KernelIdeal_pre_inputs_ok := fun m ρ _ => Cert.KernelIdeal.Gen.frame m ρ

/-- The reference's frame: its operations write no argument, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ri_pre : Cert.quiescent_ReferenceIdeal_pre_inputs_ok := fun m ρ _ => frame_ri m ρ trivial

/-- The value claim: both runs end with the kernel's flat result, which is the reference's by `Equation.result_eq`. -/
theorem value : Cert.algebraic_KernelIdeal_ReferenceIdeal_pre_inputs_ok := by
  intro m ρ m' ρ' hpre hag
  refine ⟨fun c => Cert.KernelIdeal.Hand.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨h.1 c, h.2.1 c⟩)
      (θ_run_and (Cert.KernelIdeal.Hand.run_result (F := Ideal) m ρ) (Cert.KernelIdeal.Gen.frame m ρ))
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hag c
    obtain ⟨hX, hE, hW1, hW2⟩ := hpre c
    rw [a0, a1, a2, a3, a4, a5]
    refine (Cert.ReferenceIdeal.Read.val_main_v12_eq _ _ _ _ _ _).trans
      (Cert.Equation.result_eq _ _ _ _ _ _ ?_ ?_ ?_ ?_).symm
    · exact Cert.Pre_inputs_ok.Hand.words _ _ _ _ _ _ hX
    · exact Cert.Pre_inputs_ok.Hand.table _ _ _ _ _ _ hE
    · exact Cert.Pre_inputs_ok.Hand.weights1 _ _ _ _ _ _ hW1
    · exact Cert.Pre_inputs_ok.Hand.weights2 _ _ _ _ _ _ hW2

/-- Everything the test file states. -/
theorem claim : Cert.Claim :=
  ⟨Cert.Kernel.Gen.facts, Cert.KernelIdeal.Gen.facts, Cert.ReferenceIdeal.Gen.facts, Cert.Pre_inputs_ok.Hand.facts,
    frame_p, frame_pi, frame_pi_pre, frame_ri, frame_ri_pre, trivial, value⟩

end Cert.Proof

end
